-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x768x32x32 : Shape := ⟨4, ![32, 768, 32, 32]⟩
abbrev S48x768 : Shape := ⟨2, ![48, 768]⟩
abbrev S768x48 : Shape := ⟨2, ![768, 48]⟩
abbrev S32x32x32x768 : Shape := ⟨4, ![32, 32, 32, 768]⟩
abbrev S32x1024x768 : Shape := ⟨3, ![32, 1024, 768]⟩
abbrev S1x1024x768 : Shape := ⟨3, ![1, 1024, 768]⟩
abbrev S1x768 : Shape := ⟨2, ![1, 768]⟩
abbrev S1024x768 : Shape := ⟨2, ![1024, 768]⟩
abbrev S768 : Shape := ⟨1, ![768]⟩
abbrev S1x48 : Shape := ⟨2, ![1, 48]⟩
abbrev S768x1 : Shape := ⟨2, ![768, 1]⟩
abbrev S768x768 : Shape := ⟨2, ![768, 768]⟩
abbrev S1 : Shape := ⟨1, ![1]⟩
abbrev S1x1 : Shape := ⟨2, ![1, 1]⟩
abbrev S1x1x768 : Shape := ⟨3, ![1, 1, 768]⟩
abbrev S1x1x1 : Shape := ⟨3, ![1, 1, 1]⟩

abbrev nBuf : Space → Nat
  | .hbm => 8
  | .vmem => 7
  | .smem => 0
  | _ => 0

abbrev bufTy : (tb : Table) → Fin (tcTables nBuf tb) → BufTy
  | .hbm, ⟨0, _⟩ => ⟨S32x768x32x32, .f32⟩
  | .hbm, ⟨1, _⟩ => ⟨S48x768, .f32⟩
  | .hbm, ⟨2, _⟩ => ⟨S768x48, .f32⟩
  | .hbm, ⟨3, _⟩ => ⟨S32x32x32x768, .f32⟩
  | .hbm, ⟨4, _⟩ => ⟨S32x1024x768, .f32⟩
  | .hbm, ⟨5, _⟩ => ⟨S32x1024x768, .f32⟩
  | .hbm, ⟨6, _⟩ => ⟨S32x32x32x768, .f32⟩
  | .hbm, ⟨7, _⟩ => ⟨S32x768x32x32, .f32⟩
  | .local _ .vmem, ⟨0, _⟩ => ⟨S1x1024x768, .f32⟩
  | .local _ .vmem, ⟨1, _⟩ => ⟨S1x1024x768, .f32⟩
  | .local _ .vmem, ⟨2, _⟩ => ⟨S48x768, .f32⟩
  | .local _ .vmem, ⟨3, _⟩ => ⟨S768x48, .f32⟩
  | .local _ .vmem, ⟨4, _⟩ => ⟨S1x1024x768, .f32⟩
  | .local _ .vmem, ⟨5, _⟩ => ⟨S1x1024x768, .f32⟩
  | .local _ .vmem, ⟨6, _⟩ => ⟨S1x768, .f32⟩
  | _, _ => ⟨S32x768x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x768x32x32 : Shape := ⟨4, ![32, 768, 32, 32]⟩
abbrev S48x768 : Shape := ⟨2, ![48, 768]⟩
abbrev S768x48 : Shape := ⟨2, ![768, 48]⟩
abbrev S_ : Shape := ⟨0, ![]⟩
abbrev S32x768 : Shape := ⟨2, ![32, 768]⟩
abbrev S32x48 : Shape := ⟨2, ![32, 48]⟩
abbrev S32x115 : Shape := ⟨2, ![32, 115]⟩
abbrev S32 : Shape := ⟨1, ![32]⟩
abbrev S32x1 : Shape := ⟨2, ![32, 1]⟩
abbrev S32x115x1 : Shape := ⟨3, ![32, 115, 1]⟩
abbrev S32x115x2 : Shape := ⟨3, ![32, 115, 2]⟩
abbrev S32x768x1x1 : Shape := ⟨4, ![32, 768, 1, 1]⟩

abbrev nBuf : Space → Nat
  | .hbm => 59
  | .vmem => 0
  | .smem => 0
  | _ => 0

abbrev bufTy : (tb : Table) → Fin (tcTables nBuf tb) → BufTy
  | .hbm, ⟨0, _⟩ => ⟨S32x768x32x32, .f32⟩
  | .hbm, ⟨1, _⟩ => ⟨S48x768, .f32⟩
  | .hbm, ⟨2, _⟩ => ⟨S768x48, .f32⟩
  | .hbm, ⟨3, _⟩ => ⟨S_, .f32⟩
  | .hbm, ⟨4, _⟩ => ⟨S32x768, .f32⟩
  | .hbm, ⟨5, _⟩ => ⟨S_, .f32⟩
  | .hbm, ⟨6, _⟩ => ⟨S32x768, .f32⟩
  | .hbm, ⟨7, _⟩ => ⟨S32x768, .f32⟩
  | .hbm, ⟨8, _⟩ => ⟨S768x48, .f32⟩
  | .hbm, ⟨9, _⟩ => ⟨S32x48, .f32⟩
  | .hbm, ⟨10, _⟩ => ⟨S_, .f32⟩
  | .hbm, ⟨11, _⟩ => ⟨S32x48, .f32⟩
  | .hbm, ⟨12, _⟩ => ⟨S32x48, .f32⟩
  | .hbm, ⟨13, _⟩ => ⟨S48x768, .f32⟩
  | .hbm, ⟨14, _⟩ => ⟨S32x768, .f32⟩
  | .hbm, ⟨15, _⟩ => ⟨S32x768, .f32⟩
  | .hbm, ⟨16, _⟩ => ⟨S32x768, .f32⟩
  | .hbm, ⟨17, _⟩ => ⟨S_, .f32⟩
  | .hbm, ⟨18, _⟩ => ⟨S32x768, .f32⟩
  | .hbm, ⟨19, _⟩ => ⟨S32x768, .f32⟩
  | .hbm, ⟨20, _⟩ => ⟨S_, .f32⟩
  | .hbm, ⟨21, _⟩ => ⟨S32x768, .f32⟩
  | .hbm, ⟨22, _⟩ => ⟨S32x768, .f32⟩
  | .hbm, ⟨23, _⟩ => ⟨S32x768, .f32⟩
  | .hbm, ⟨24, _⟩ => ⟨S32x768, .i32⟩
  | .hbm, ⟨25, _⟩ => ⟨S32x768, .f32⟩
  | .hbm, ⟨26, _⟩ => ⟨S32x768, .i32⟩
  | .hbm, ⟨27, _⟩ => ⟨S32x115, .i32⟩
  | .hbm, ⟨28, _⟩ => ⟨S_, .f32⟩
  | .hbm, ⟨29, _⟩ => ⟨S32x768, .f32⟩
  | .hbm, ⟨30, _⟩ => ⟨S32, .i32⟩
  | .hbm, ⟨31, _⟩ => ⟨S32x1, .i32⟩
  | .hbm, ⟨32, _⟩ => ⟨S_, .i32⟩
  | .hbm, ⟨33, _⟩ => ⟨S32x1, .i32⟩
  | .hbm, ⟨34, _⟩ => ⟨S32x1, .i1⟩
  | .hbm, ⟨35, _⟩ => ⟨S_, .i32⟩
  | .hbm, ⟨36, _⟩ => ⟨S32x1, .i32⟩
  | .hbm, ⟨37, _⟩ => ⟨S32x1, .i32⟩
  | .hbm, ⟨38, _⟩ => ⟨S32x1, .i32⟩
  | .hbm, ⟨39, _⟩ => ⟨S_, .i32⟩
  | .hbm, ⟨40, _⟩ => ⟨S32x115, .i32⟩
  | .hbm, ⟨41, _⟩ => ⟨S32x115, .i1⟩
  | .hbm, ⟨42, _⟩ => ⟨S_, .i32⟩
  | .hbm, ⟨43, _⟩ => ⟨S32x115, .i32⟩
  | .hbm, ⟨44, _⟩ => ⟨S32x115, .i32⟩
  | .hbm, ⟨45, _⟩ => ⟨S32x115, .i32⟩
  | .hbm, ⟨46, _⟩ => ⟨S32x115, .i32⟩
  | .hbm, ⟨47, _⟩ => ⟨S32x115x1, .i32⟩
  | .hbm, ⟨48, _⟩ => ⟨S32x115x1, .i32⟩
  | .hbm, ⟨49, _⟩ => ⟨S32x115x2, .i32⟩
  | .hbm, ⟨50, _⟩ => ⟨S_, .f32⟩
  | .hbm, ⟨51, _⟩ => ⟨S32x115, .f32⟩
  | .hbm, ⟨52, _⟩ => ⟨S32x768, .f32⟩
  | .hbm, ⟨53, _⟩ => ⟨S32x768x1x1, .f32⟩
  | .hbm, ⟨54, _⟩ => ⟨S_, .f32⟩
  | .hbm, ⟨55, _⟩ => ⟨S32x768x1x1, .f32⟩
  | .hbm, ⟨56, _⟩ => ⟨S32x768x1x1, .f32⟩
  | .hbm, ⟨57, _⟩ => ⟨S32x768x32x32, .f32⟩
  | .hbm, ⟨58, _⟩ => ⟨S32x768x32x32, .f32⟩
  | _, _ => ⟨S32x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1_0 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Proof.IdealBody.lean ====
/-
  The idealized kernel's run, by hand: what one grid point's body leaves in the output block (`outBlock`, through the branch on
  the number of ties), the pipeline's proof data, the body obligation and the run with every semaphore counter at zero.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Pipeline.FrameBody
public import Idealize.ShloMosaic.Lib.Pipeline.FrameSuffix
public import Idealize.ShloMosaic.Lib.Pipeline.ValueKit
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one grid point leaves -/

/-- The branch's condition: more entries reach the threshold than may be dropped. -/
def tied (x0 : Vec F S1x1024x768 .f32) (x1 : Vec F S48x768 .f32) (x2 : Vec F S768x48 .f32) : BitVec 1 :=
  Scalar.cmpi .ne (Scalar.extui (Scalar.cmpf .ogt (k0_pay9 x0 x1 x2) (Scalar.ofBits .f32 0x42E60000#32)) : BitVec 32) 0#32

/-- The row of factors the scratch holds when the block is scaled. -/
def keepRow (x0 : Vec F S1x1024x768 .f32) (x1 : Vec F S48x768 .f32) (x2 : Vec F S768x48 .f32) : Vec F S1x768 .f32 :=
  if tied x0 x1 x2 = 1#1 then k0_pay2 (k0_pay5 x0 x1 x2) (k0_pay6 x0 x1 x2) (k0_pay7 x0 x1 x2)
  else k0_pay1 (k0_pay10 x0 x1 x2)

/-- The output block of the point whose input block is `x0` and whose weights are `x1` and `x2`. -/
def outBlock (x0 : Vec F S1x1024x768 .f32) (x1 : Vec F S48x768 .f32) (x2 : Vec F S768x48 .f32) : Vec F S1x1024x768 .f32 :=
  k0_pay3 (k0_pay4 x0) (keepRow x0 x1 x2)

set_option maxHeartbeats 1000000 in
/-- The body's triple: the inputs stay, the output block is `outBlock` of them, the scratch ends at some contents. -/
theorem sound_kernel (c : Dev nD) (i : grid0.Coords)
    (arg1 : Memref sig .tc .vmem S1x1024x768 .f32) (harg1 : arg1.IsWhole) (arg2 : Memref sig .tc .vmem S48x768 .f32) (harg2 : arg2.IsWhole)
    (arg3 : Memref sig .tc .vmem S768x48 .f32) (harg3 : arg3.IsWhole) (arg4 : Memref sig .tc .vmem S1x1024x768 .f32) (harg4 : arg4.IsWhole)
    (arg5 : Memref sig .tc .vmem S1x768 .f32) (harg5 : arg5.IsWhole)
    (x0 : Vec F S1x1024x768 .f32) (x1 : Vec F S48x768 .f32) (x2 : Vec F S768x48 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2) ∗ (∃ d, owns (c : Thread nD τ) arg5 fullShare d)) -∗ K ⟨⟩))
      ⊢ wp frame (wpE (defs₀ (F := F)) Variants.none c none) Set.univ
          (cc0__fused_body i arg1 harg1 arg2 harg2 arg3 harg3 arg4 harg4 arg5 harg5) K := by
  simp only [cc0__fused_body_eq_skeleton]; unfold cc0__fused_body_skel
  simp only [k0_part1_eq_skeleton]; unfold k0_part1_skel
  unfold owns
  iintro ⟨⟨%f1, %h1, H1⟩, ⟨%f2, %h2, H2⟩, ⟨%f3, %h3, H3⟩, ⟨%d4, %f4, -, H4⟩, ⟨%d5, %f5, -, H5⟩, Hk⟩
  subst h1 h2 h3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_full _ _ _ _ _).trans ?_
    have e1 : View.readAt (Elt F) arg1.view (Rect.unit ![0, 0, 0] S1x1024x768.size inb_S1x1024x768_S1x1024x768_0_0_0).toLoadRect f1
        = arg1.view.read (Elt F) f1 := View.readAt_full _ _ _
    have e2 : View.readAt (Elt F) arg2.view (Rect.unit ![0, 0] S48x768.size inb_S48x768_S48x768_0_0).toLoadRect f2
        = arg2.view.read (Elt F) f2 := View.readAt_full _ _ _
    have e3 : View.readAt (Elt F) arg3.view (Rect.unit ![0, 0] S768x48.size inb_S768x48_S768x48_0_0).toLoadRect f3
        = arg3.view.read (Elt F) f3 := View.readAt_full _ _ _
    unfold outBlock keepRow tied
    rw [← e1, ← e2, ← e3]
    refine congrArg _ ?_
    unfold sound_kernel.sl.v45
    split
    · exact View.readAt_writes_full _ _ _ _ _ _
    · exact View.readAt_writes_full _ _ _ _ _ _
  iexists _, _; isplitr; swap; · iexact H5
  ipureintro; rfl

/-! ## The proof data -/

/-- The proof data on core `c`: the arrays as the region finds them, the inputs left in place, the output block computed,
    the scratch at any contents between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlock (iblk m c 0 t) (iblk m c 1 t) (iblk m c 2 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body at a point -/

/-- The class invariant is the scratch at some contents and the generator register at some state. -/
theorem inv_eq (c : Dev nD) :
    (Pipeline.ΦA spec0 c : sProp 𝕄)
      = iprop((∃ d, owns (c : Thread nD τ) (Memref.whole cc0_scratch0) fullShare d) ∗ ∃ r, prngReg c r) := by
  unfold Pipeline.ΦA
  rw [scopedRest0_eq]
  simp only [owns_whole]
  try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, inv_eq, after0, after1, after2, after3]
  iintro ⟨⟨HS, Hg⟩, Ho, ⟨%d0, H0⟩, ⟨%d1, H1⟩, ⟨%d2, H2⟩, ⟨%d3, H3⟩⟩
  iapply (sound_kernel c (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hg]
  · isplitl [HS]; · iexact HS
    iexact Hg
  isplitl [Ho]; · iexact Ho
  isplitl [H0]; · iexact H0
  isplitl [H1]; · iexact H1
  isplitl [H2]; · iexact H2
  iexact H3

theorem body_obligation (c : Dev nD) :
    BodyObligation (dats (F := F) m 0 c) (defs₀ (F := F)) Variants.none () Set.univ := fun t => by
  rw [bigSep_W0, bigSep_W0]
  exact sound_body m c t

/-! ## The run -/

set_option backward.isDefEq.respectTransparency.types false in
/-- Every execution of @main terminates, nothing faulting; every array ends at what the library computes from the proof data, and
    every semaphore counter at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (Q' := _)

/-- The frame's post at any value instance: the argument arrays end as launched and every counter at zero. -/
theorem frame_quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans (W_main_arg0 m (dats m) c),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩, h.2⟩) (run_main m ρ)

end Cert.KernelIdeal.Hand

end
-- ==== Proof.Rank.lean ====
/-
  Ranks in a row of scores, with no reference to any program. The rank of an entry is how many entries come before it when the
  row is sorted from the greatest score down, equal scores in order of position. Two facts:
  * the stable sort of the row puts an entry at the position that is its rank (`sortedFrom_eq_iff`);
  * an entry's rank is below `K` exactly when the entry is above the `K`-th greatest score, or equals it with few enough equal
    entries before it (`rank_lt_iff_of_threshold`, and `rank_lt_iff_of_few` when no tie has to be broken).
-/
module

public import Idealize.ShloMosaic.Lib.SortFacts
public import Mathlib.Data.Fintype.Card
public import Mathlib.Data.EReal.Basic

@[expose] public section

noncomputable section

namespace Cert.Rank

open Idealize.ShloMosaic

variable {n : Nat} {α : Type} [LinearOrder α] (s : Fin n → α)

/-- `j` comes before `i`: a greater score, or an equal score at an earlier position. -/
def Ahead (j i : Fin n) : Prop := s i < s j ∨ (s j = s i ∧ j < i)

instance (j i : Fin n) : Decidable (Ahead s j i) := inferInstanceAs (Decidable (_ ∨ _))

/-- How many entries come before `i`. -/
def rank (i : Fin n) : Nat := (Finset.univ.filter fun j => Ahead s j i).card

/-- How many scores are above `t`, -/
def above (t : α) : Nat := (Finset.univ.filter fun j => t < s j).card
/-- how many are at least `t`, -/
def atLeast (t : α) : Nat := (Finset.univ.filter fun j => t ≤ s j).card
/-- and how many entries before `i` equal `t`. -/
def equalBefore (t : α) (i : Fin n) : Nat := (Finset.univ.filter fun j => s j = t ∧ j < i).card

theorem Ahead.irrefl (i : Fin n) : ¬ Ahead s i i := fun h => by
  rcases h with h | ⟨-, h⟩ <;> exact lt_irrefl _ h

theorem Ahead.asymm {i j : Fin n} (h : Ahead s i j) : ¬ Ahead s j i := by
  rcases h with h | ⟨e, h⟩ <;> rintro (h' | ⟨e', h'⟩)
  · exact lt_asymm h h'
  · exact absurd e' h.ne
  · exact absurd e h'.ne
  · exact lt_asymm h h'

theorem Ahead.trans {i j k : Fin n} (h : Ahead s i j) (h' : Ahead s j k) : Ahead s i k := by
  rcases h with h | ⟨e, h⟩ <;> rcases h' with h' | ⟨e', h'⟩
  · exact Or.inl (h'.trans h)
  · exact Or.inl (e' ▸ h)
  · exact Or.inl (e ▸ h')
  · exact Or.inr ⟨e.trans e', h.trans h'⟩

theorem Ahead.total {i j : Fin n} (hne : i ≠ j) : Ahead s i j ∨ Ahead s j i := by
  rcases lt_trichotomy (s i) (s j) with h | h | h
  · exact Or.inr (Or.inl h)
  · rcases lt_or_gt_of_ne hne with h' | h'
    · exact Or.inl (Or.inr ⟨h, h'⟩)
    · exact Or.inr (Or.inr ⟨h.symm, h'⟩)
  · exact Or.inl (Or.inl h)

/-! ## The stable sort -/

section sort
variable (before : Fin n → Fin n → Bool) (hb : ∀ k k', before k k' = true ↔ s k' < s k)
include hb

/-- Inserting into a list in order an entry whose position precedes all of the list's keeps the order. -/
theorem pairwise_insert (a : Fin n) (l : List (Fin n)) (hl : l.Pairwise (Ahead s)) (ha : ∀ b ∈ l, a < b) :
    (insertBefore before a l).Pairwise (Ahead s) := by
  induction l with
  | nil => unfold insertBefore; exact List.pairwise_singleton _ _
  | cons b l ih =>
    rw [List.pairwise_cons] at hl
    unfold insertBefore
    split
    · rename_i h
      rw [List.pairwise_cons]
      refine ⟨fun x hx => ?_, ih hl.2 fun x hx => ha x (List.mem_cons_of_mem _ hx)⟩
      rcases List.mem_cons.mp ((perm_insertBefore before a l).mem_iff.mp hx) with rfl | hx
      · exact Or.inl ((hb _ _).mp h)
      · exact hl.1 x hx
    · rename_i h
      have hab : Ahead s a b := by
        have h' : ¬ s a < s b := fun h' => h ((hb _ _).mpr h')
        rcases lt_or_eq_of_le (not_lt.mp h') with h' | h'
        · exact Or.inl h'
        · exact Or.inr ⟨h'.symm, ha b List.mem_cons_self⟩
      rw [List.pairwise_cons]
      refine ⟨fun x hx => ?_, List.pairwise_cons.mpr hl⟩
      rcases List.mem_cons.mp hx with rfl | hx
      · exact hab
      · exact Ahead.trans s hab (hl.1 x hx)

theorem pairwise_sort (l : List (Fin n)) (hl : l.Pairwise (· < ·)) : (stableSort before l).Pairwise (Ahead s) := by
  induction l with
  | nil => exact List.Pairwise.nil
  | cons a l ih =>
    rw [List.pairwise_cons] at hl
    unfold stableSort
    exact pairwise_insert s before hb a _ (ih hl.2) fun b h => hl.1 b ((perm_stableSort before l).mem_iff.mp h)

/-- The sorted positions' sources are in order. -/
theorem ahead_sortedFrom {k k' : Fin n} (h : k < k') : Ahead s (sortedFrom before k) (sortedFrom before k') := by
  have hp := List.pairwise_iff_get.mp (pairwise_sort s before hb (List.finRange n) (List.pairwise_lt_finRange n))
  unfold sortedFrom
  exact hp _ _ (show k.val < k'.val from h)

omit hb in
theorem card_below (k : Fin n) : (Finset.univ.filter fun k' : Fin n => k' < k).card = k.val := by
  rw [Finset.filter_gt_eq_Iio, Fin.card_Iio]

/-- The entry a sorted position holds has that position as its rank. -/
theorem rank_sortedFrom (k : Fin n) : rank s (sortedFrom before k) = k.val := by
  have e : (Finset.univ.filter fun j => Ahead s j (sortedFrom before k))
      = (Finset.univ.filter fun k' : Fin n => k' < k).image (sortedFrom before) := by
    ext j
    simp only [Finset.mem_filter, Finset.mem_univ, true_and, Finset.mem_image]
    constructor
    · intro h
      obtain ⟨k', rfl⟩ := sortedFrom_surjective before j
      refine ⟨k', ?_, rfl⟩
      by_contra hk
      rcases lt_or_eq_of_le (not_lt.mp hk) with hk | rfl
      · exact Ahead.asymm s h (ahead_sortedFrom s before hb hk)
      · exact Ahead.irrefl s _ h
    · rintro ⟨k', hk, rfl⟩
      exact ahead_sortedFrom s before hb hk
  unfold rank
  rw [e, Finset.card_image_of_injective _ (sortedFrom_injective before)]
  exact card_below k

/-- Position `k` of the sorted row holds entry `i` exactly when `i`'s rank is `k`. -/
theorem sortedFrom_eq_iff (k i : Fin n) : sortedFrom before k = i ↔ rank s i = k.val := by
  constructor
  · rintro rfl; exact rank_sortedFrom s before hb k
  · intro h
    obtain ⟨k', rfl⟩ := sortedFrom_surjective before i
    rw [rank_sortedFrom s before hb] at h
    rw [Fin.ext h]

end sort

theorem rank_lt (i : Fin n) : rank s i < n := by
  have h : (Finset.univ.filter fun j => Ahead s j i).card < (Finset.univ : Finset (Fin n)).card :=
    Finset.card_lt_card ⟨Finset.filter_subset _ _, fun h => Ahead.irrefl s i (Finset.mem_filter.mp (h (Finset.mem_univ i))).2⟩
  simpa [rank] using h

/-! ## Ranks from a threshold -/

/-- An entry's rank is the number of greater scores and of earlier equal ones. -/
theorem rank_eq (i : Fin n) : rank s i = above s (s i) + equalBefore s (s i) i := by
  unfold rank above equalBefore
  rw [← Finset.card_union_of_disjoint]
  · congr 1
    ext j
    simp only [Finset.mem_filter, Finset.mem_univ, true_and, Finset.mem_union]
    rfl
  · rw [Finset.disjoint_filter]
    intro j _ h h'
    exact absurd h'.1 h.ne'

theorem above_le_of_le {t u : α} (h : t ≤ u) : above s u ≤ above s t :=
  Finset.card_le_card fun j hj => by
    simp only [Finset.mem_filter, Finset.mem_univ, true_and] at hj ⊢
    exact lt_of_le_of_lt h hj

theorem rank_lt_atLeast (i : Fin n) : rank s i < atLeast s (s i) := by
  unfold rank atLeast
  refine Finset.card_lt_card ⟨fun j hj => ?_, fun h => ?_⟩
  · simp only [Finset.mem_filter, Finset.mem_univ, true_and] at hj ⊢
    rcases hj with h | h
    · exact h.le
    · exact h.1.ge
  · have := h (show i ∈ _ by simp)
    simp only [Finset.mem_filter, Finset.mem_univ, true_and] at this
    exact Ahead.irrefl s i this

theorem atLeast_le_above {t u : α} (h : t < u) : atLeast s u ≤ above s t :=
  Finset.card_le_card fun j hj => by
    simp only [Finset.mem_filter, Finset.mem_univ, true_and] at hj ⊢
    exact lt_of_lt_of_le h hj

variable {K : Nat} {t : α} (hle : ∀ i, above s (s i) < K → t ≤ s i) (hat : ∃ i, above s (s i) < K ∧ t = s i)
include hle hat

theorem above_threshold_lt : above s t < K := by
  obtain ⟨i, hi, rfl⟩ := hat; exact hi

/-- With `t` the `K`-th greatest score: an entry is among the first `K` when its score is above `t`, or equals `t` and the equal
    entries before it, with the greater ones, are fewer than `K`. -/
theorem rank_lt_iff_of_threshold (i : Fin n) :
    rank s i < K ↔ t < s i ∨ (s i = t ∧ above s t + equalBefore s t i < K) := by
  have ht := above_threshold_lt s hle hat
  rcases lt_trichotomy t (s i) with h | h | h
  · refine ⟨fun _ => Or.inl h, fun _ => ?_⟩
    exact (rank_lt_atLeast s i).trans_le ((atLeast_le_above s h).trans ht.le)
  · rw [rank_eq, ← h]
    exact ⟨fun h' => Or.inr ⟨rfl, h'⟩, fun h' => h'.elim (fun h'' => absurd h'' (lt_irrefl _)) fun h'' => h''.2⟩
  · refine ⟨fun h' => ?_, fun h' => ?_⟩
    · refine absurd (hle i ?_) (not_le.mpr h)
      rw [rank_eq] at h'
      omega
    · rcases h' with h' | ⟨h', -⟩
      · exact absurd h' (lt_asymm h)
      · exact absurd h' h.ne

/-- When at most `K` scores reach the threshold no tie has to be broken: the first `K` are those that reach it. -/
theorem rank_lt_iff_of_few (hK : atLeast s t ≤ K) (i : Fin n) : rank s i < K ↔ t ≤ s i := by
  rw [rank_lt_iff_of_threshold s hle hat]
  constructor
  · rintro (h | ⟨h, -⟩)
    · exact h.le
    · exact h.ge
  · intro h
    rcases lt_or_eq_of_le h with h | h
    · exact Or.inl h
    · refine Or.inr ⟨h.symm, ?_⟩
      have e := rank_lt_atLeast s i
      rw [rank_eq, ← h] at e
      omega

end Cert.Rank

end
-- ==== Proof.Counts.lean ====
/-
  Counting with indicators: a sum of 0/1 floats is the number of ones, and the few constants the kernel compares such counts with.
-/
module

public import proofs.«01_k».proof.Proof.Rank
public import Idealize.ShloMosaic.Lib.Pointwise
public import Idealize.ShloMosaic.PureOps.Ideal.Laws

@[expose] public section

set_option maxRecDepth 16384

noncomputable section

namespace Cert.Counts

open Idealize.ShloMosaic

/-- A bit widened to a word and read as a float is 1 or 0. -/
theorem bit_float (b : BitVec 1) :
    (FloatOps.sitofp FTy.f32 (BitVec.setWidth 32 b) : Ideal .f32) = if b = 1#1 then (1 : EReal) else 0 := by
  show (((BitVec.setWidth 32 b).toInt : ℝ) : EReal) = _
  have h : b = 0#1 ∨ b = 1#1 := by revert b; decide
  rcases h with rfl | rfl
  · have e : (BitVec.setWidth 32 (0#1)).toInt = 0 := by decide
    rw [e]; simp
  · have e : (BitVec.setWidth 32 (1#1)).toInt = 1 := by decide
    rw [e]; simp

theorem ofBool_eq_one (p : Prop) [Decidable p] : BitVec.ofBool (decide p) = 1#1 ↔ p := by
  by_cases h : p <;> simp [h]

/-- A sum of indicators is a count. -/
theorem sum_bits {n : Nat} (f : Fin n → BitVec 1) :
    (∑ x, (FloatOps.sitofp FTy.f32 (BitVec.setWidth 32 (f x)) : Ideal .f32) : EReal)
      = (((Finset.univ.filter fun x => f x = 1#1).card : ℕ) : EReal) := by
  rw [Finset.card_filter, Nat.cast_sum]
  refine Finset.sum_congr rfl fun x _ => ?_
  rw [bit_float]
  by_cases h : f x = 1#1 <;> simp [h]

theorem ofBits_115 : Ideal.ofBits FTy.f32 0x42E60000#32 = ((115 : ℕ) : EReal) := by
  simp [Ideal.ofBits, Ideal.ieee]
  rw [← EReal.coe_mul]
  norm_num
  rfl

theorem ofBits_two : Ideal.ofBits FTy.f32 0x40000000#32 = 2 := by
  simp [Ideal.ofBits, Ideal.ieee]
  rw [← EReal.coe_mul]
  norm_num
  rfl

theorem ofBits_top : Ideal.ofBits FTy.f32 0x7F800000#32 = ⊤ := by
  simp [Ideal.ofBits, Ideal.ieee]

theorem cast_lt (a b : ℕ) : ((a : ℕ) : EReal) < ((b : ℕ) : EReal) ↔ a < b := by
  exact_mod_cast Iff.rfl

/-- `a` is below what `b` leaves of `c` exactly when the two together are below `c`. -/
theorem cast_lt_sub (a b c : ℕ) : ((a : ℕ) : EReal) < ((c : ℕ) : EReal) - ((b : ℕ) : EReal) ↔ b + a < c := by
  have e : ((c : ℕ) : EReal) - ((b : ℕ) : EReal) = (((c : ℝ) - (b : ℝ) : ℝ) : EReal) := by push_cast; rfl
  have e' : ((a : ℕ) : EReal) = ((a : ℝ) : EReal) := rfl
  rw [e, e', EReal.coe_lt_coe_iff, lt_sub_iff_add_lt]
  rw [show (a : ℝ) + b = ((b + a : ℕ) : ℝ) by push_cast; ring]
  exact Nat.cast_lt

/-- The least, over the entries with fewer than `K` greater scores, of their scores (other entries counting as `big`, which no
    score reaches) is a score with fewer than `K` greater ones, and no such score is smaller. -/
theorem threshold {n : Nat} (s : Fin n → EReal) (big : EReal) (hbig : ∀ i, s i < big) (K : Nat) (hK : 0 < K) (hn : 0 < n) (t : EReal)
    (ht : t = Finset.univ.fold min ⊤ fun x => if Cert.Rank.above s (s x) < K then s x else big) :
    (∀ i, Cert.Rank.above s (s i) < K → t ≤ s i) ∧ ∃ i, Cert.Rank.above s (s i) < K ∧ t = s i := by
  have hinf : t = Finset.univ.inf fun x => if Cert.Rank.above s (s x) < K then s x else big := ht
  have hle : ∀ i, Cert.Rank.above s (s i) < K → t ≤ s i := fun i hi => by
    have h := Finset.inf_le (f := fun x => if Cert.Rank.above s (s x) < K then s x else big) (Finset.mem_univ i)
    rw [← hinf] at h
    simpa only [if_pos hi] using h
  refine ⟨hle, ?_⟩
  have hne : (Finset.univ : Finset (Fin n)).Nonempty := ⟨⟨0, hn⟩, Finset.mem_univ _⟩
  obtain ⟨i, -, hi⟩ := Finset.exists_mem_eq_inf Finset.univ hne fun x => if Cert.Rank.above s (s x) < K then s x else big
  obtain ⟨top, -, htop⟩ := Finset.exists_max_image Finset.univ s hne
  have h0 : Cert.Rank.above s (s top) = 0 :=
    Finset.card_eq_zero.mpr (Finset.filter_eq_empty_iff.mpr fun j _ => not_lt.mpr (htop j (Finset.mem_univ j)))
  have hlt : t < big := (hle top (by omega)).trans_lt (hbig top)
  rw [← hinf] at hi
  by_cases hc : Cert.Rank.above s (s i) < K
  · exact ⟨i, hc, by simpa only [if_pos hc] using hi⟩
  · rw [if_neg hc] at hi
    exact absurd hlt (by rw [hi]; exact lt_irrefl _)

end Cert.Counts

end
-- ==== Proof.Keep.lean ====
/-
  The row of factors one grid point computes: 0 at the 115 channels of greatest score (ties going to the earlier channel), 1 at
  the others. The kernel counts, for each score, the greater ones, takes the least score with fewer than 115 of them as the
  threshold, and breaks a tie at the threshold, when there is one to break, by counting the earlier equal scores.
-/
module

public import proofs.«01_k».proof.Proof.IdealBody
public import proofs.«01_k».proof.Proof.Counts

@[expose] public section

set_option maxRecDepth 16384

noncomputable section

namespace Cert.KernelIdeal.Keep

open Cert.KernelIdeal Cert.KernelIdeal.Gen Cert.KernelIdeal.Hand
open Idealize.ShloMosaic Idealize.ShloMosaic.TcCoe Idealize.SL.Sem
open Cert.Rank Cert.Counts

/-! ## The counts, over any row of scores -/

/-- The sum of a mask's ones. -/
theorem mask_sum (M : IVec S1x768 1) :
    (extractAt ![0, 0, 0] (shapeCast S1x1x1 (multiReduction (F := Ideal) (φ := .f32) .add [1, 2] S1
      (shapeCast S1x1x768 (sitofp .f32 (extui 32 M natLt_1_32)) shapeCasts_S1x768_S1x1x768) 0x00000000#32 reduces_S1x1x768_S1 (.inl rfl) rfl)
      shapeCasts_S1_S1x1x1) inpos_S1x1x1_p0_0_0 : EReal)
      = (((Finset.univ.filter fun x : Fin 768 => M (ix2 0 x) = 1#1).card : ℕ) : EReal) := by
  refine Eq.trans ?_ (sum_bits fun x => M (ix2 0 x))
  pointwise
  simp

theorem ge_mask (s : FVec Ideal S1x768 .f32) (t : FVec Ideal S1x1 .f32) (j : Fin 768) :
    cmpf .oge s (broadcastTo S1x768 t broadcasts_S1x1_S1x768) (ix2 0 j) = 1#1 ↔ t (ix2 0 0) ≤ s (ix2 0 j) := by
  have e : cmpf .oge s (broadcastTo S1x768 t broadcasts_S1x1_S1x768) (ix2 0 j) = Ideal.cmp .oge (s (ix2 0 j)) (t (ix2 0 0)) := by
    show Ideal.cmp .oge _ (broadcastTo S1x768 t broadcasts_S1x1_S1x768 (ix2 0 j)) = _
    pointwise
  rw [e]
  exact Ideal.cmp_oge_eq_one ..

theorem gt_mask (s : FVec Ideal S1x768 .f32) (t : FVec Ideal S1x1 .f32) (j : Fin 768) :
    cmpf .ogt s (broadcastTo S1x768 t broadcasts_S1x1_S1x768) (ix2 0 j) = 1#1 ↔ t (ix2 0 0) < s (ix2 0 j) := by
  have e : cmpf .ogt s (broadcastTo S1x768 t broadcasts_S1x1_S1x768) (ix2 0 j) = Ideal.cmp .ogt (s (ix2 0 j)) (t (ix2 0 0)) := by
    show Ideal.cmp .ogt _ (broadcastTo S1x768 t broadcasts_S1x1_S1x768 (ix2 0 j)) = _
    pointwise
  rw [e]
  exact Ideal.cmp_ogt_eq_one ..

/-- The word that compares two channels' positions. -/
theorem position_lt (x j : Fin 768) : IntOp.cmpi .slt (BitVec.ofNat 32 x.val) (BitVec.ofNat 32 j.val) = 1#1 ↔ x < j := by
  have e : IntOp.cmpi .slt (BitVec.ofNat 32 x.val) (BitVec.ofNat 32 j.val)
      = BitVec.ofBool ((BitVec.ofNat 32 x.val).slt (BitVec.ofNat 32 j.val)) := rfl
  have hx := x.isLt
  have hj := j.isLt
  have ht : ∀ n : ℕ, n < 768 → (BitVec.ofNat 32 n).toInt = (n : ℤ) := fun n hn => by
    have e : (BitVec.ofNat 32 n).toNat = n := by rw [BitVec.toNat_ofNat]; omega
    rw [BitVec.toInt_eq_toNat_of_lt (by rw [e]; omega), e]
  rw [e, BitVec.slt, ht _ hx, ht _ hj, ofBool_eq_one]
  rw [Fin.lt_def]
  omega

theorem and_eq_one (a b : BitVec 1) : IntOp.andi a b = 1#1 ↔ a = 1#1 ∧ b = 1#1 := by revert a b; decide
theorem or_eq_one (a b : BitVec 1) : IntOp.ori a b = 1#1 ↔ a = 1#1 ∨ b = 1#1 := by revert a b; decide

/-- The factors the tie-breaking branch writes. -/
theorem pay2_apply (v12 : FVec Ideal S1x768 .f32) (v13 : FVec Ideal S768x1 .f32) (v26 : FVec Ideal S1x1 .f32)
    (s : Fin 768 → EReal) (t : EReal) (h12 : ∀ j, v12 (ix2 0 j) = s j) (h13 : ∀ j, v13 (ix2 j 0) = s j) (h26 : v26 (ix2 0 0) = t)
    (j : Fin 768) :
    k0_pay2 v12 v13 v26 (ix2 0 j)
      = (1 : EReal) - if t < s j ∨ (s j = t ∧ above s t + equalBefore s t j < 115) then (1 : EReal) else 0 := by
  pointwise [k0_pay2]
  rw [bit_float]
  refine congrArg (fun z : EReal => (1 : EReal) - z) (if_congr ?_ rfl rfl)
  rw [or_eq_one, and_eq_one, ofBool_eq_one, ofBool_eq_one, ofBool_eq_one, h12, h26]
  refine or_congr Iff.rfl (and_congr Iff.rfl ?_)
  rw [sum_bits, Fin.sum_univ_one, sum_bits, ofBits_115, cast_lt_sub]
  have e1 : (Finset.univ.filter fun x : Fin 768 => BitVec.ofBool (decide (t < v12 (ix2 0 x))) = 1#1).card = above s t := by
    unfold above
    congr 1
    ext x
    simp only [Finset.mem_filter, Finset.mem_univ, true_and, ofBool_eq_one, h12]
  have e2 : (Finset.univ.filter fun x : Fin 768 => IntOp.andi (BitVec.ofBool (decide (v13 (ix2 x 0) = t)))
      (IntOp.cmpi .slt (BitVec.ofNat 32 x.val) (BitVec.ofNat 32 j.val)) = 1#1).card = equalBefore s t j := by
    unfold equalBefore
    congr 1
    ext x
    simp only [Finset.mem_filter, Finset.mem_univ, true_and, and_eq_one, ofBool_eq_one, h13, position_lt]
  rw [e1, e2]

/-! ## The row of one block -/

variable (x0 : Vec Ideal S1x1024x768 .f32) (x1 : Vec Ideal S48x768 .f32) (x2 : Vec Ideal S768x48 .f32)

/-- The block's scores, -/
def score (j : Fin 768) : EReal := k0_pay5 x0 x1 x2 (ix2 0 j)
/-- and its threshold. -/
def thr : EReal := k0_pay7 x0 x1 x2 (ix2 0 0)

theorem column_apply (j : Fin 768) : k0_pay6 x0 x1 x2 (ix2 j 0) = score x0 x1 x2 j := by
  unfold k0_pay6 score
  generalize k0_pay5 x0 x1 x2 = s
  pointwise

theorem thr_eq : thr x0 x1 x2 = Finset.univ.fold min ⊤
    fun x => if above (score x0 x1 x2) (score x0 x1 x2 x) < 115 then score x0 x1 x2 x else 2 := by
  unfold thr k0_pay7 k0_pay6 score
  generalize k0_pay5 x0 x1 x2 = s
  pointwise
  rw [ofBits_top]
  refine congrArg (fun f => Finset.fold min (⊤ : EReal) f Finset.univ) (funext fun x => ?_)
  refine if_congr ?_ rfl ofBits_two
  rw [sum_bits, ofBits_115, cast_lt]
  refine iff_of_eq (congrArg (fun n : ℕ => n < 115) ?_)
  unfold above
  congr 1
  ext y
  simp only [Finset.mem_filter, Finset.mem_univ, true_and, ofBool_eq_one]

/-- A score is a logistic value: below 2. -/
theorem score_lt_two (j : Fin 768) : score x0 x1 x2 j < 2 := by
  have e : ∃ y : EReal, score x0 x1 x2 j = Ideal.logistic y := ⟨_, rfl⟩
  obtain ⟨y, e⟩ := e
  rw [e]
  have h1 : (1 : EReal) < 2 := by norm_num
  induction y with
  | bot => rw [Ideal.logistic_bot]; exact lt_trans (by norm_num) h1
  | top => rw [Ideal.logistic_top]; exact h1
  | coe r =>
    rw [Ideal.logistic_coe]
    refine lt_of_le_of_lt ?_ h1
    have h : (1 + Real.exp (-r))⁻¹ ≤ 1 := inv_le_one_of_one_le₀ (by linarith [Real.exp_pos (-r)])
    exact_mod_cast h

/-- The mask of the channels that reach the threshold. -/
theorem reach_apply (j : Fin 768) : k0_pay8 x0 x1 x2 (ix2 0 j) = 1#1 ↔ thr x0 x1 x2 ≤ score x0 x1 x2 j := by
  unfold k0_pay8 thr score
  generalize k0_pay5 x0 x1 x2 = s
  generalize k0_pay7 x0 x1 x2 = t
  exact ge_mask s t j

theorem count_of_mask (M : IVec S1x768 1) (h : k0_pay8 x0 x1 x2 = M) :
    k0_pay9 x0 x1 x2 = (((Finset.univ.filter fun x : Fin 768 => M (ix2 0 x) = 1#1).card : ℕ) : EReal) := by
  unfold k0_pay9
  rw [h]
  exact mask_sum M

theorem untied_of_mask (M : IVec S1x768 1) (h : k0_pay8 x0 x1 x2 = M) (j : Fin 768) :
    k0_pay1 (k0_pay10 x0 x1 x2) (ix2 0 j) = (1 : EReal) - if M (ix2 0 j) = 1#1 then (1 : EReal) else 0 := by
  unfold k0_pay1 k0_pay10
  rw [h]
  pointwise
  rw [bit_float]

theorem card_of_mask (M : IVec S1x768 1) (s : Fin 768 → EReal) (t : EReal) (hM : ∀ j, M (ix2 0 j) = 1#1 ↔ t ≤ s j) :
    (Finset.univ.filter fun x : Fin 768 => M (ix2 0 x) = 1#1).card = atLeast s t :=
  congrArg Finset.card (Finset.filter_congr fun x _ => hM x)

theorem count_apply : k0_pay9 x0 x1 x2 = ((atLeast (score x0 x1 x2) (thr x0 x1 x2) : ℕ) : EReal) := by
  rw [count_of_mask x0 x1 x2 _ rfl, card_of_mask _ _ _ (reach_apply x0 x1 x2)]

theorem tied_iff : tied x0 x1 x2 = 1#1 ↔ 115 < atLeast (score x0 x1 x2) (thr x0 x1 x2) := by
  have e : tied x0 x1 x2 = 1#1 ↔ Ideal.cmp .ogt (k0_pay9 x0 x1 x2) (Ideal.ofBits .f32 0x42E60000#32) = 1#1 := by
    show IntOp.cmpi .ne (BitVec.setWidth 32 (Ideal.cmp .ogt (k0_pay9 x0 x1 x2) (Ideal.ofBits .f32 0x42E60000#32))) 0#32 = 1#1 ↔ _
    generalize Ideal.cmp .ogt (k0_pay9 x0 x1 x2) (Ideal.ofBits .f32 0x42E60000#32) = b
    revert b; decide
  rw [e, count_apply, ofBits_115]
  exact (Ideal.cmp_ogt_eq_one ..).trans (cast_lt _ _)

/-- The untied branch's factors. -/
theorem pay10_apply (j : Fin 768) :
    k0_pay1 (k0_pay10 x0 x1 x2) (ix2 0 j) = (1 : EReal) - if thr x0 x1 x2 ≤ score x0 x1 x2 j then (1 : EReal) else 0 := by
  rw [untied_of_mask x0 x1 x2 _ rfl j]
  simp only [reach_apply]

/-- The row of factors: 0 at the first 115 channels by score, 1 at the others. -/
theorem keepRow_apply (j : Fin 768) :
    keepRow x0 x1 x2 (ix2 0 j) = (1 : EReal) - if rank (score x0 x1 x2) j < 115 then (1 : EReal) else 0 := by
  obtain ⟨hle, hat⟩ := threshold (score x0 x1 x2) 2 (score_lt_two x0 x1 x2) 115 (by norm_num) (by norm_num) _ (thr_eq x0 x1 x2)
  unfold keepRow
  by_cases h : tied x0 x1 x2 = 1#1
  · rw [if_pos h]
    refine (pay2_apply _ _ _ (score x0 x1 x2) (thr x0 x1 x2) (fun _ => rfl) (column_apply x0 x1 x2) rfl j).trans ?_
    exact congrArg (fun z : EReal => (1 : EReal) - z) (if_congr (rank_lt_iff_of_threshold _ hle hat j).symm rfl rfl)
  · rw [if_neg h]
    rw [tied_iff, not_lt] at h
    refine (pay10_apply x0 x1 x2 j).trans ?_
    exact congrArg (fun z : EReal => (1 : EReal) - z) (if_congr (rank_lt_iff_of_few _ hle hat h j).symm rfl rfl)

end Cert.KernelIdeal.Keep

end
-- ==== Proof.Score.lean ====
/-
  One channel's score, on both sides: the logistic function of the two-layer product of the channels' means.
-/
module

public import proofs.«01_k».proof.Proof.Gen.ReferenceIdeal.Read
public import proofs.«01_k».proof.Proof.Keep

@[expose] public section

set_option maxRecDepth 16384

noncomputable section

namespace Cert.ReferenceIdeal.Score

open Cert.ReferenceIdeal Cert.ReferenceIdeal.Gen Cert.ReferenceIdeal.Read
open Idealize.ShloMosaic Idealize.ShloMosaic.TcCoe Idealize.SL.Sem

variable (x : FVec Ideal S32x768x32x32 .f32) (w1 : FVec Ideal S48x768 .f32) (w2 : FVec Ideal S768x48 .f32)

/-- The mean of one channel of one image. -/
theorem mean_apply (b : Fin 32) (k : Fin 768) :
    val_main_v2 (F := Ideal) x (ix2 b k) = Ideal.div (∑ h : Fin 32, ∑ w : Fin 32, x (ix4 b k h w)) (Ideal.ofBits .f32 0x44800000#32) := by
  pointwise [val_main_v2, val_main_v0, val_main_v1, val_main_cst, val_main_cst_0]

theorem hidden_apply (b : Fin 32) (k : Fin 48) :
    val_main_v6 (F := Ideal) x w1 (ix2 b k) = max (∑ l : Fin 768, val_main_v2 (F := Ideal) x (ix2 b l) * w1 (ix2 k l)) 0 := by
  unfold val_main_v6 val_main_v4 val_main_v3 val_main_v5
  generalize val_main_v2 (F := Ideal) x = y
  pointwise [val_main_cst_1]

theorem score_apply (b : Fin 32) (j : Fin 768) :
    val_main_v14 (F := Ideal) x w1 w2 (ix2 b j) = Ideal.logistic (∑ k : Fin 48, val_main_v6 (F := Ideal) x w1 (ix2 b k) * w2 (ix2 j k)) := by
  unfold val_main_v14 val_main_v12 val_main_v10 val_main_v9 val_main_v8 val_main_v7
  generalize val_main_v6 (F := Ideal) x w1 = y
  pointwise [val_main_v13, val_main_v11, val_main_cst_2, val_main_cst_3]
  rfl

end Cert.ReferenceIdeal.Score

namespace Cert.KernelIdeal.Keep

open Cert.KernelIdeal Cert.KernelIdeal.Gen
open Idealize.ShloMosaic Idealize.ShloMosaic.TcCoe Idealize.SL.Sem

/-- The kernel's scores of one block. -/
theorem block_score (x0 : Vec Ideal S1x1024x768 .f32) (x1 : Vec Ideal S48x768 .f32) (x2 : Vec Ideal S768x48 .f32) (j : Fin 768) :
    score x0 x1 x2 j = Ideal.logistic (∑ k : Fin 48, max (∑ l : Fin 768,
      Ideal.div (∑ p : Fin 1024, x0 (ix3 0 p l)) (Ideal.ofBits .f32 0x44800000#32) * x1 (ix2 k l)) 0 * x2 (ix2 j k)) := by
  unfold score
  pointwise [k0_pay5, k0_pay4]

end Cert.KernelIdeal.Keep

namespace Cert.Score

open Idealize.ShloMosaic Cert.ReferenceIdeal.Read

/-- The block that holds image `b` (its pixels in row order, channels last) has the reference's scores of that image. -/
theorem block_score_eq (x : FVec Ideal Cert.ReferenceIdeal.S32x768x32x32 .f32) (w1 : FVec Ideal Cert.ReferenceIdeal.S48x768 .f32)
    (w2 : FVec Ideal Cert.ReferenceIdeal.S768x48 .f32)
    (x0 : FVec Ideal Cert.KernelIdeal.S1x1024x768 .f32) (b : Fin 32)
    (h0 : ∀ (h w : Fin 32) (l : Fin 768), x0 (ix3 0 ⟨h.val * 32 + w.val, by omega⟩ l) = x (ix4 b l h w)) (j : Fin 768) :
    Cert.KernelIdeal.Keep.score x0 w1 w2 j = val_main_v14 (F := Ideal) x w1 w2 (ix2 b j) := by
  rw [Cert.ReferenceIdeal.Score.score_apply, Cert.KernelIdeal.Keep.block_score]
  refine congrArg Ideal.logistic (Finset.sum_congr rfl fun k _ => ?_)
  rw [Cert.ReferenceIdeal.Score.hidden_apply]
  refine congrArg (fun z : EReal => max z 0 * w2 (ix2 j k)) (Finset.sum_congr rfl fun l _ => ?_)
  rw [Cert.ReferenceIdeal.Score.mean_apply, Fin.sum_univ_tiles 32 32 rfl]
  refine congrArg (fun z : EReal => Ideal.div z _ * w1 (ix2 k l)) (Finset.sum_congr rfl fun h _ => Finset.sum_congr rfl fun w _ => ?_)
  exact h0 h w l

end Cert.Score

end
-- ==== Proof.Order.lean ====
/-
  The reference's mask: sorting the negated scores stably and writing 1 at the channels in the first 115 sorted positions leaves 1
  exactly at the channels of rank below 115, and 0 at the others.
-/
module

public import proofs.«01_k».proof.Proof.Gen.ReferenceIdeal.Read
public import proofs.«01_k».proof.Proof.Rank
public import Idealize.ShloMosaic.Lib.Pointwise
public import Idealize.ShloMosaic.Lib.Routing.OpsSet

@[expose] public section

set_option maxRecDepth 16384

noncomputable section

namespace Cert.ReferenceIdeal.Order

open Cert.ReferenceIdeal Cert.ReferenceIdeal.Gen Cert.ReferenceIdeal.Read
open Idealize.ShloMosaic Idealize.ShloMosaic.TcCoe Idealize.SL.Sem

/-! ## The sort -/

/-- Replacing 0 by 0 and keeping everything else is the identity. -/
theorem normal_eq (x : EReal) :
    (Scalar.select (Ideal.cmp .une x x) (Ideal.ofBits .f32 0x7FC00000#32)
      (Scalar.select (Ideal.cmp .oeq x (Ideal.ofBits .f32 0x00000000#32)) (Ideal.ofBits .f32 0x00000000#32) x) : EReal) = x := by
  have e1 : Ideal.cmp .une x x = 0#1 := by
    show BitVec.ofBool (decide (x ≠ x)) = 0#1
    simp
  rw [e1]
  show Scalar.select (Ideal.cmp .oeq x (Ideal.ofBits .f32 0x00000000#32)) (Ideal.ofBits .f32 0x00000000#32) x = x
  rw [Ideal.ofBits_zero_f32]
  by_cases h : x = 0
  · have e : Ideal.cmp .oeq x 0 = 1#1 := by
      show BitVec.ofBool (decide (x = 0)) = 1#1
      simp [h]
    rw [e, h]
    rfl
  · have e : Ideal.cmp .oeq x 0 = 0#1 := by
      show BitVec.ofBool (decide (x = 0)) = 0#1
      simp [h]
    rw [e]
    rfl

/-- The comparison the sort is by: strictly less, whatever the positions. -/
theorem comparator_iff (x y : EReal) (p q : BitVec 32) :
    comparator_f32_i32_d1 (F := Ideal) (x, p) (y, q) = 1#1 ↔ x < y := by
  unfold comparator_f32_i32_d1
  show Ideal.cmp .olt (Scalar.select (Ideal.cmp .une x x) (Ideal.ofBits .f32 0x7FC00000#32)
      (Scalar.select (Ideal.cmp .oeq x (Ideal.ofBits .f32 0x00000000#32)) (Ideal.ofBits .f32 0x00000000#32) x))
    (Scalar.select (Ideal.cmp .une y y) (Ideal.ofBits .f32 0x7FC00000#32)
      (Scalar.select (Ideal.cmp .oeq y (Ideal.ofBits .f32 0x00000000#32)) (Ideal.ofBits .f32 0x00000000#32) y)) = 1#1 ↔ x < y
  rw [normal_eq, normal_eq]
  exact Ideal.cmp_olt_eq_one ..

variable (x : FVec Ideal S32x768x32x32 .f32) (w1 : FVec Ideal S48x768 .f32) (w2 : FVec Ideal S768x48 .f32)

/-- Image `b`'s scores. -/
def scores (b : Fin 32) (j : Fin 768) : EReal := val_main_v14 (F := Ideal) x w1 w2 (ix2 b j)

/-- The order the sort puts image `b`'s channels in. -/
def before (y : FVec Ideal S32x768 .f32) (b : Fin 32) (k k' : Fin 768) : Bool :=
  comparator_f32_i32_d1 (F := Ideal) (y (ix2 b k), BitVec.ofNat 32 k.val) (y (ix2 b k'), BitVec.ofNat 32 k'.val) == 1#1

theorem before_iff (b : Fin 32) (k k' : Fin 768) :
    before (val_main_v15 (F := Ideal) x w1 w2) b k k' = true ↔ scores x w1 w2 b k' < scores x w1 w2 b k := by
  unfold before
  rw [beq_iff_eq, comparator_iff]
  exact EReal.neg_lt_neg_iff

/-- The second result of a two-operand sort of a matrix's rows, at any extents. -/
theorem sort2_second {R C : ℕ} {α β : Type} (cmp : α × β → α × β → BitVec 1) (y : (⟨2, ![R, C]⟩ : Shape).Idx → α)
    (z : (⟨2, ![R, C]⟩ : Shape).Idx → β) (b : Fin R) (k : Fin C) :
    (Host.sort2 ⟨2, ![R, C]⟩ 1 cmp y z).2 (ix2 b k)
      = z (ix2 b (sortedFrom (fun q q' : Fin C => cmp (y (ix2 b q), z (ix2 b q)) (y (ix2 b q'), z (ix2 b q')) == 1#1) k)) := by
  have ha : ∀ q : Fin C, Shape.Idx.along (s := ⟨2, ![R, C]⟩) (ix2 b k) (1 : Fin 2) q = ix2 b q := fun q => by
    funext a
    match a with
    | ⟨0, _⟩ => rfl
    | ⟨1, _⟩ => rfl
  unfold Host.sort2
  rw [dif_pos (show 1 < (⟨2, ![R, C]⟩ : Shape).rank from Nat.one_lt_two)]
  show z (Shape.Idx.along (s := ⟨2, ![R, C]⟩) (ix2 b k) (1 : Fin 2) (sortedFrom (fun q q' : Fin C =>
      cmp (y (Shape.Idx.along (s := ⟨2, ![R, C]⟩) (ix2 b k) (1 : Fin 2) q), z (Shape.Idx.along (s := ⟨2, ![R, C]⟩) (ix2 b k) (1 : Fin 2) q))
        (y (Shape.Idx.along (s := ⟨2, ![R, C]⟩) (ix2 b k) (1 : Fin 2) q'), z (Shape.Idx.along (s := ⟨2, ![R, C]⟩) (ix2 b k) (1 : Fin 2) q'))
        == 1#1) k)) = _
  simp only [ha]
  exact congrArg z (ha _)

/-- Sorting with the channel numbers: sorted position `k` holds the number of the channel that comes `k`-th. -/
theorem sort_apply (y : FVec Ideal S32x768 .f32) (b : Fin 32) (k : Fin 768) :
    (Host.sort2 S32x768 1 (comparator_f32_i32_d1 (F := Ideal)) y (val_main_call0_v0 (F := Ideal))).2 (ix2 b k)
      = BitVec.ofNat 32 (sortedFrom (before y b) k).val :=
  sort2_second _ y _ b k

/-! ## The index words -/

/-- The channel that comes `k`-th in image `b`. -/
def chan (b : Fin 32) (k : Fin 115) : Fin 768 :=
  sortedFrom (before (val_main_v15 (F := Ideal) x w1 w2) b) ⟨k.val, by omega⟩

theorem first_apply (b : Fin 32) (k : Fin 115) :
    val_main_v17 (F := Ideal) x w1 w2 (ix2 b k) = BitVec.ofNat 32 (chan x w1 w2 b k).val := by
  rw [val_main_v17_apply]
  have e : idx_main_v17 (ix2 b k) = ix2 b (⟨k.val, by omega⟩ : Fin 768) := by
    funext a
    match a with
    | ⟨0, _⟩ => rfl
    | ⟨1, _⟩ => rfl
  rw [e]
  exact sort_apply _ b _

theorem toNat_small (n : ℕ) (h : n < 768) : (BitVec.ofNat 32 n).toNat = n := by
  rw [BitVec.toNat_ofNat]; omega

theorem toInt_small (n : ℕ) (h : n < 768) : (BitVec.ofNat 32 n).toInt = (n : ℤ) := by
  rw [BitVec.toInt_eq_toNat_of_lt (by rw [toNat_small n h]; omega), toNat_small n h]

/-- A channel number is not negative, so it is used as it is, -/
theorem column_apply (b : Fin 32) (k : Fin 115) :
    val_main_v30 (F := Ideal) x w1 w2 (ix2 b k) = BitVec.ofNat 32 (chan x w1 w2 b k).val := by
  rw [val_main_v30_apply, val_main_v27_apply, first_apply]
  refine (Routing.wrap_of_lt _ _ ?_)
  rw [toNat_small _ (chan x w1 w2 b k).isLt]
  have := (chan x w1 w2 b k).isLt
  omega

/-- and so is the image's number. -/
theorem row_apply (b : Fin 32) : val_main_v25 (F := Ideal) (ix2 b 0) = BitVec.ofNat 32 b.val := by
  rw [val_main_v25_apply, val_main_v22_apply]
  have e : val_main_v20 (F := Ideal) (ix2 b 0) = BitVec.ofNat 32 b.val := by
    rw [val_main_v20_apply, val_main_v19_apply]
    rfl
  rw [e]
  refine (Routing.wrap_of_lt _ _ ?_)
  rw [toNat_small _ (by omega)]
  omega

theorem pair_row (b : Fin 32) (k : Fin 115) : val_main_v34 (F := Ideal) x w1 w2 (ix3 b k 0) = BitVec.ofNat 32 b.val := by
  rw [← row_apply b]
  unfold val_main_v34
  generalize val_main_v33 (F := Ideal) x w1 w2 = y
  pointwise [val_main_v32, val_main_v31]

theorem pair_column (b : Fin 32) (k : Fin 115) :
    val_main_v34 (F := Ideal) x w1 w2 (ix3 b k 1) = BitVec.ofNat 32 (chan x w1 w2 b k).val := by
  rw [← column_apply x w1 w2 b k]
  unfold val_main_v34 val_main_v33
  generalize val_main_v30 (F := Ideal) x w1 w2 = y
  generalize val_main_v32 (F := Ideal) = z
  pointwise

/-! ## The mask -/

theorem ones_apply (k : S32x115.Idx) : val_main_v35 (F := Ideal) k = (1 : EReal) := by
  idx_vars k
  pointwise [val_main_v35, val_main_cst_8]

theorem zeros_apply (k : S32x768.Idx) : val_main_v18 (F := Ideal) k = (0 : EReal) := by
  idx_vars k
  pointwise [val_main_v18, val_main_cst_4]

/-- Update `(a, k)` lands at `(b, j)` when `a` is `b` and `j` comes `k`-th. -/
theorem lands_iff (a : Fin 32) (k : Fin 115) (b : Fin 32) (j : Fin 768) :
    scatter_S32x768_S32x115x2_S32x115_n_01_01_2.resultIdx? (ix2 a k) (val_main_v34 (F := Ideal) x w1 w2) = some (ix2 b j)
      ↔ a = b ∧ chan x w1 w2 a k = j := by
  have e := Routing.scatter_lands2 scatter_S32x768_S32x115x2_S32x115_n_01_01_2 rfl rfl rfl (val_main_v34 (F := Ideal) x w1 w2) a k b j
  refine e.trans ?_
  show (val_main_v34 (F := Ideal) x w1 w2 (ix3 a k 0)).toInt = _ ∧ (val_main_v34 (F := Ideal) x w1 w2 (ix3 a k 1)).toInt = _ ↔ _
  rw [pair_row, pair_column, toInt_small _ (by omega), toInt_small _ (chan x w1 w2 a k).isLt]
  rw [Fin.ext_iff, Fin.ext_iff]
  omega

/-- The reference's mask at image `b`, channel `j`. -/
theorem mask_apply (b : Fin 32) (j : Fin 768) :
    val_main_v36 (F := Ideal) x w1 w2 (ix2 b j) = if Cert.Rank.rank (scores x w1 w2 b) j < 115 then (1 : EReal) else 0 := by
  have hc : ∀ k : Fin 115, chan x w1 w2 b k = j ↔ Cert.Rank.rank (scores x w1 w2 b) j = k.val := fun k =>
    Cert.Rank.sortedFrom_eq_iff (scores x w1 w2 b) _ (before_iff x w1 w2 b) ⟨k.val, by omega⟩ j
  unfold val_main_v36
  by_cases h : Cert.Rank.rank (scores x w1 w2 b) j < 115
  · rw [if_pos h]
    obtain ⟨r, hr⟩ : ∃ r : Fin 115, Cert.Rank.rank (scores x w1 w2 b) j = r.val := ⟨⟨_, h⟩, rfl⟩
    refine Routing.scatter_set_hit _ _ _ _ _ _ (fun k _ => ones_apply k) (ix2 b r) ?_
    exact (lands_iff x w1 w2 _ _ _ _).mpr ⟨rfl, (hc r).mpr hr⟩
  · rw [if_neg h]
    refine (Routing.scatter_set_miss _ _ _ _ _ fun k hk => ?_).trans (zeros_apply _)
    obtain ⟨a, q, rfl⟩ : ∃ (a : Fin 32) (q : Fin 115), k = ix2 a q := ⟨k 0, k 1, eq_ix2 k⟩
    obtain ⟨e, hq⟩ := (lands_iff x w1 w2 a q b j).mp hk
    rw [e] at hq
    exact h ((hc q).mp hq ▸ q.isLt)

/-- The reference's result: the entry times one minus its channel's mask. -/
theorem result_apply (b : Fin 32) (j : Fin 768) (h w : Fin 32) :
    val_main_v41 (F := Ideal) x w1 w2 (ix4 b j h w)
      = x (ix4 b j h w) * ((1 : EReal) - if Cert.Rank.rank (scores x w1 w2 b) j < 115 then (1 : EReal) else 0) := by
  rw [← mask_apply]
  unfold val_main_v41 val_main_v40 val_main_v39 val_main_v37
  generalize val_main_v36 (F := Ideal) x w1 w2 = y
  pointwise [val_main_v38, val_main_cst_9]

end Cert.ReferenceIdeal.Order

end
-- ==== Proof.Array.lean ====
/-
  The array the kernel's region fills: at image `b`, pixel `p`, channel `l`, the input's entry times the channel's factor.
-/
module

public import proofs.«01_k».proof.Proof.Score
public import proofs.«01_k».proof.Proof.Order
public import Idealize.ShloMosaic.Lib.Pipeline.ValueKit
public import Idealize.ShloMosaic.Lib.Claim

@[expose] public section

set_option maxRecDepth 16384

noncomputable section

namespace Cert.KernelIdeal.Array

open Cert.KernelIdeal Cert.KernelIdeal.Gen Cert.KernelIdeal.Hand Cert.KernelIdeal.Keep
open Idealize.ShloMosaic Idealize.ShloMosaic.TcCoe Idealize.SL.Sem
open Idealize.ShloMosaic.Pipeline (Dat)
open Cert.ReferenceIdeal.Order (scores)

/-- The factor of image `b`'s channel `l`. -/
def factor (X : FVec Ideal S32x768x32x32 .f32) (w1 : FVec Ideal S48x768 .f32) (w2 : FVec Ideal S768x48 .f32) (b : Fin 32) (l : Fin 768) : EReal :=
  (1 : EReal) - if Cert.Rank.rank (scores X w1 w2 b) l < 115 then (1 : EReal) else 0

/-- The region's result: the input with its pixels in row order and its channels last, scaled. -/
def filled (X : FVec Ideal S32x768x32x32 .f32) (w1 : FVec Ideal S48x768 .f32) (w2 : FVec Ideal S768x48 .f32) : FVec Ideal S32x1024x768 .f32 :=
  fun i => X (ix4 (⟨(i 0).val, (i 0).isLt⟩ : Fin 32) (⟨(i 2).val, (i 2).isLt⟩ : Fin 768)
      (⟨(i 1).val / 32, by have h : (i 1).val < 1024 := (i 1).isLt; omega⟩ : Fin 32) (⟨(i 1).val % 32, Nat.mod_lt _ (by norm_num)⟩ : Fin 32))
    * factor X w1 w2 ⟨(i 0).val, (i 0).isLt⟩ ⟨(i 2).val, (i 2).isLt⟩

/-- The input as the region finds it, -/
def rows (X : FVec Ideal S32x768x32x32 .f32) : FVec Ideal S32x1024x768 .f32 :=
  shapeCast S32x1024x768 (transpose S32x32x32x768 [0, 2, 3, 1] X transposes_S32x768x32x32_S32x32x32x768_0_2_3_1) shapeCasts_S32x32x32x768_S32x1024x768

/-- read at an index. -/
theorem rows_apply (X : FVec Ideal S32x768x32x32 .f32) (b : Fin 32) (p : Fin 1024) (l : Fin 768) :
    rows X (ix3 b p l) = X (ix4 b l ⟨p.val / 32, by omega⟩ ⟨p.val % 32, Nat.mod_lt _ (by norm_num)⟩) := by
  pointwise [rows]

/-- One block: its entries times the factors of its image. -/
theorem block_apply (X : FVec Ideal S32x768x32x32 .f32) (w1 : FVec Ideal S48x768 .f32) (w2 : FVec Ideal S768x48 .f32)
    (x0 : FVec Ideal S1x1024x768 .f32) (b : Fin 32) (h0 : ∀ (p : Fin 1024) (l : Fin 768), x0 (ix3 0 p l) = rows X (ix3 b p l))
    (p : Fin 1024) (l : Fin 768) :
    outBlock (F := Ideal) x0 w1 w2 (ix3 0 p l) = filled X w1 w2 (ix3 b p l) := by
  have hs : score x0 w1 w2 = scores X w1 w2 b := funext fun j => Cert.Score.block_score_eq X w1 w2 x0 b (fun h w l => by
    rw [h0, rows_apply]
    refine congrArg X ?_
    have e1 : (h.val * 32 + w.val) / 32 = h.val := by omega
    have e2 : (h.val * 32 + w.val) % 32 = w.val := by omega
    simp only [e1, e2]) j
  have e : outBlock (F := Ideal) x0 w1 w2 (ix3 0 p l) = x0 (ix3 0 p l) * keepRow (F := Ideal) x0 w1 w2 (ix2 0 l) := by
    unfold outBlock
    generalize keepRow (F := Ideal) x0 w1 w2 = k
    pointwise [k0_pay3, k0_pay4]
  rw [e, keepRow_apply, hs, h0, rows_apply]
  rfl

variable (m : (ℓ : Loc nD τ sig) → Buf (Elt Ideal) ℓ)

theorem entry_main_v1 (c : Dev nD) : V m c main_v1 = rows (m ((c : Thread nD τ).loc main_arg0)) := by
  entry_read
  rfl

/-- The windows' index maps: block `t` of the input and of the result, the weights whole. -/
theorem idx : ∀ t : Fin cfg0.N, win0_0.index t = ![t.val, 0, 0] ∧ win0_1.index t = ![0, 0] ∧ win0_2.index t = ![0, 0]
    ∧ win0_3.index t = ![t.val, 0, 0] ∧ t.val < 32 :=
  (by decide +kernel : ∀ t : Fin grid0.N, _)

theorem weights1 (c : Dev nD) (t : Fin cfg0.N) : iblk m c 1 t = m ((c : Thread nD τ).loc main_arg1) := by
  blk_ext! [iblk, V, idx t]

theorem weights2 (c : Dev nD) (t : Fin cfg0.N) : iblk m c 2 t = m ((c : Thread nD τ).loc main_arg2) := by
  blk_ext! [iblk, V, idx t]

theorem input_block (c : Dev nD) (t : Fin cfg0.N) (p : Fin 1024) (l : Fin 768) :
    (show FVec Ideal S1x1024x768 .f32 from iblk m c 0 t) (ix3 0 p l)
      = rows (m ((c : Thread nD τ).loc main_arg0)) (ix3 (⟨t.val, (idx t).2.2.2.2⟩ : Fin 32) p l) := by
  rw [← entry_main_v1]
  blk_ext [iblk, idx t]

/-- The array the region leaves: every block is the block of `filled`, and the blocks tile it. -/
theorem final (c : Dev nD) : (dats m 0 c).arrAt 3 (cfgs 0).N
    = filled (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after3, weights1, weights2]
  obtain ⟨u, p, l, rfl⟩ : ∃ (u : Fin 1) (p : Fin 1024) (l : Fin 768), y = ix3 u p l := ⟨y 0, y 1, y 2, eq_ix3 y⟩
  obtain rfl : u = 0 := Subsingleton.elim _ _
  refine (block_apply (m ((c : Thread nD τ).loc main_arg0)) (m ((c : Thread nD τ).loc main_arg1)) (m ((c : Thread nD τ).loc main_arg2))
    (iblk m c 0 t) ⟨t.val, (idx t).2.2.2.2⟩ (input_block m c t) p l).trans ?_
  blk_ext [idx t]

/-- The region's result put back in the input's layout. -/
def tail (Y : FVec Ideal S32x1024x768 .f32) : FVec Ideal S32x768x32x32 .f32 :=
  transpose S32x768x32x32 [0, 3, 1, 2] (shapeCast S32x32x32x768 Y shapeCasts_S32x1024x768_S32x32x32x768) transposes_S32x32x32x768_S32x768x32x32_0_3_1_2

theorem tail_apply (Y : FVec Ideal S32x1024x768 .f32) (b : Fin 32) (l : Fin 768) (h w : Fin 32) :
    tail Y (ix4 b l h w) = Y (ix3 b ⟨h.val * 32 + w.val, by omega⟩ l) := by
  pointwise [tail]

/-- The kernel's result and the reference's are one array. -/
theorem result_eq (X : FVec Ideal S32x768x32x32 .f32) (w1 : FVec Ideal S48x768 .f32) (w2 : FVec Ideal S768x48 .f32) :
    tail (filled X w1 w2) = Cert.ReferenceIdeal.Read.val_main_v41 (F := Ideal) X w1 w2 := by
  funext i
  obtain ⟨b, l, h, w, rfl⟩ : ∃ (b : Fin 32) (l : Fin 768) (h w : Fin 32), i = ix4 b l h w := ⟨i 0, i 1, i 2, i 3, eq_ix4 i⟩
  refine (tail_apply _ b l h w).trans ?_
  refine Eq.trans ?_ (Cert.ReferenceIdeal.Order.result_apply X w1 w2 b l h w).symm
  have e1 : (h.val * 32 + w.val) / 32 = h.val := by omega
  have e2 : (h.val * 32 + w.val) % 32 = w.val := by omega
  have e : (ix4 b l (⟨(h.val * 32 + w.val) / 32, by omega⟩ : Fin 32) (⟨(h.val * 32 + w.val) % 32, by omega⟩ : Fin 32) : S32x768x32x32.Idx)
      = ix4 b l h w := by simp only [e1, e2]
  show X (ix4 b l (⟨(h.val * 32 + w.val) / 32, _⟩ : Fin 32) (⟨(h.val * 32 + w.val) % 32, _⟩ : Fin 32)) * factor X w1 w2 b l = _
  rw [e]
  rfl

/-- What the host operations after the region leave in the result buffer. -/
theorem result_buffer (c : Dev nD) :
    Pipeline.afterTail₀ cfgs (dats m) 0 (V0 m) [hostOps1] c main_v4
      = tail (filled (m ((c : Thread nD τ).loc main_arg0)) (m ((c : Thread nD τ).loc main_arg1)) (m ((c : Thread nD τ).loc main_arg2))) := by
  rw [← final m c]
  unfold Pipeline.afterTail₀
  simp only [List.flatten_cons, List.flatten_nil, List.append_nil]
  have e := Pipeline.withArrays_arr (cfgs 0).spec (by decide) c (V0 m c) (fun w => (dats m 0 c).arrAt w (cfgs 0).N) 3
  rw [← e]
  after_results
  rfl

/-- The idealized kernel's run: the result buffer holds the reference's array of the arguments, which end as launched. -/
theorem run_result (ρ : Dev nD → PrngReg) :
    θ_run defs (onTc (τ := τ) (main (F := Ideal))) ⟨m, fun _ => 0, ρ⟩ (fun r => ∀ c : Dev nD,
      r.2.mem ((c.tc : Thread nD τ).loc main_v4) = Cert.ReferenceIdeal.Read.val_main_v41 (F := Ideal) (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).2 main_v4 (Pipeline.mem_restRefs_of main_v4 (by decide) (by decide))).trans
        ((result_buffer m c).trans (result_eq (m ((c.tc : Thread nD τ).loc main_arg0)) (m ((c.tc : Thread nD τ).loc main_arg1))
          (m ((c.tc : Thread nD τ).loc main_arg2)))),
      ((h.1 c).2 main_arg0 (Pipeline.mem_restRefs_of main_arg0 (by decide) (by decide))).trans (W_main_arg0 m (dats m) c),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩) (run_main m ρ)

end Cert.KernelIdeal.Array

end
-- ==== Proof.lean ====
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelBody
public import proofs.«01_k».proof.Proof.Array
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: its run, with no semaphore to count. -/
theorem reference_quiescent : Cert.quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩)
    (Cert.ReferenceIdeal.Value.run m g)

/-- The idealized kernel and the reference, from equal arguments, end with equal results. -/
theorem results_equal : Cert.algebraic_KernelIdeal_ReferenceIdeal (hKernelIdeal := Cert.KernelIdeal.Gen.facts)
    (hReferenceIdeal := Cert.ReferenceIdeal.Gen.facts) := fun m g m' g' _ hagree => by
  refine ⟨fun c => Cert.ReferenceIdeal.Read.val_main_v41 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact Cert.KernelIdeal.Array.run_result m g
  · refine (θ_run _ _ _).mono (fun r h c => ⟨(h c).1.trans ?_, (h c).2⟩) (Cert.ReferenceIdeal.Value.run m' g')
    rw [Cert.ReferenceIdeal.Read.val_main_v41_eq, (hagree c).1, (hagree c).2.1, (hagree c).2.2]

theorem claim : Cert.Claim := ⟨Cert.Kernel.Gen.facts, Cert.KernelIdeal.Gen.facts, Cert.ReferenceIdeal.Gen.facts,
  fun m g _ => Cert.Kernel.Hand.frame_quiescent m g, fun m g _ => Cert.KernelIdeal.Hand.frame_quiescent m g, reference_quiescent,
  trivial, results_equal⟩

end Cert.Proof

end
